-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_row_max_finite [hPre_row_max_finite : Cert.Pre_row_max_finite.Facts] (m : (ℓ : Loc Cert.KernelIdeal.nD Cert.KernelIdeal.τ Cert.KernelIdeal.sig) → Buf (Elt Ideal) ℓ) : Prop :=
  ∀ c : Dev Cert.KernelIdeal.nD,
    (Cert.Pre_row_max_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_row_max_finite [hPre_row_max_finite : Cert.Pre_row_max_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_max_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_row_max_finite [hKernelIdeal : Cert.KernelIdeal.Facts] [hPre_row_max_finite : Cert.Pre_row_max_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_row_max_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_row_max_finite [hReferenceIdeal : Cert.ReferenceIdeal.Facts] [hPre_row_max_finite : Cert.Pre_row_max_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_max_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_row_max_finite [hKernelIdeal : Cert.KernelIdeal.Facts] [hReferenceIdeal : Cert.ReferenceIdeal.Facts] [hPre_row_max_finite : Cert.Pre_row_max_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_row_max_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_row_max_finite : Cert.Pre_row_max_finite.Facts),
    quiescent_Kernel (hKernel := hKernel)
    ∧ quiescent_KernelIdeal (hKernelIdeal := hKernelIdeal)
    ∧ quiescent_KernelIdeal_pre_row_max_finite (hKernelIdeal := hKernelIdeal) (hPre_row_max_finite := hPre_row_max_finite)
    ∧ quiescent_ReferenceIdeal (hReferenceIdeal := hReferenceIdeal)
    ∧ quiescent_ReferenceIdeal_pre_row_max_finite (hReferenceIdeal := hReferenceIdeal) (hPre_row_max_finite := hPre_row_max_finite)
    ∧ preserves_Kernel_KernelIdeal
    ∧ algebraic_KernelIdeal_ReferenceIdeal_pre_row_max_finite (hKernelIdeal := hKernelIdeal) (hReferenceIdeal := hReferenceIdeal) (hPre_row_max_finite := hPre_row_max_finite)
-- ==== Pre_row_max_finite.lean ====
abbrev S16x576x1024 : Shape := ⟨3, ![16, 576, 1024]⟩
abbrev S1024x256 : Shape := ⟨2, ![1024, 256]⟩
abbrev S_ : Shape := ⟨0, ![]⟩
abbrev S16x576 : Shape := ⟨2, ![16, 576]⟩

class Facts : Prop where
  reducesTo_S16x576x1024_S16x576_d2 : S16x576x1024.ReducesTo [2] S16x576
  h_S_ : 0 < S_.numel
  bcast_S_S16x576 : S_.BroadcastsInDim S16x576 (![] : Fin 0 → Fin S16x576.rank)

variable [Facts]

def fn {F : FTy → Type} [FloatOps F] (main_arg0 : FVec F S16x576x1024 .f32) (main_arg1 : FVec F S1024x256 .f32) : IVec S16x576 1 :=
  let main_cst : FVec F S_ .f32 := constant S_ .f32 0xFF800000#32
  let main_v0 : FVec F S16x576 .f32 := (fun x v => Host.reduce FloatOps.maximumf x v reducesTo_S16x576x1024_S16x576_d2 h_S_) main_arg0 main_cst
  let main_cst_0 : FVec F S_ .f32 := constant S_ .f32 0xFF800000#32
  let main_v1 : FVec F S16x576 .f32 := broadcastInDim S16x576 ![] bcast_S_S16x576 main_cst_0
  let main_v2 : IVec S16x576 1 := cmpf .ogt main_v0 main_v1
  let main_cst_1 : FVec F S_ .f32 := constant S_ .f32 0x7F800000#32
  let main_v3 : FVec F S16x576 .f32 := broadcastInDim S16x576 ![] bcast_S_S16x576 main_cst_1
  let main_v4 : IVec S16x576 1 := cmpf .olt main_v0 main_v3
  let main_v5 : IVec S16x576 1 := andi main_v2 main_v4
  main_v5
-- ==== Kernel.lean ====
abbrev S16x576x1024 : Shape := ⟨3, ![16, 576, 1024]⟩
abbrev S1024x256 : Shape := ⟨2, ![1024, 256]⟩
abbrev S9216x1024 : Shape := ⟨2, ![9216, 1024]⟩
abbrev S9216x256 : Shape := ⟨2, ![9216, 256]⟩
abbrev S2304x1024 : Shape := ⟨2, ![2304, 1024]⟩
abbrev S2304x256 : Shape := ⟨2, ![2304, 256]⟩
abbrev S2304 : Shape := ⟨1, ![2304]⟩
abbrev S2304x1 : Shape := ⟨2, ![2304, 1]⟩
abbrev S16x576x256 : Shape := ⟨3, ![16, 576, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x576x1024, .f32⟩
  | .hbm, ⟨1, _⟩ => ⟨S1024x256, .f32⟩
  | .hbm, ⟨2, _⟩ => ⟨S9216x1024, .f32⟩
  | .hbm, ⟨3, _⟩ => ⟨S9216x1024, .f32⟩
  | .hbm, ⟨4, _⟩ => ⟨S9216x256, .f32⟩
  | .hbm, ⟨5, _⟩ => ⟨S16x576x1024, .f32⟩
  | .hbm, ⟨6, _⟩ => ⟨S16x576x256, .f32⟩
  | .local _ .vmem, ⟨0, _⟩ => ⟨S2304x1024, .f32⟩
  | .local _ .vmem, ⟨1, _⟩ => ⟨S2304x1024, .f32⟩
  | .local _ .vmem, ⟨2, _⟩ => ⟨S1024x256, .f32⟩
  | .local _ .vmem, ⟨3, _⟩ => ⟨S2304x1024, .f32⟩
  | .local _ .vmem, ⟨4, _⟩ => ⟨S2304x1024, .f32⟩
  | .local _ .vmem, ⟨5, _⟩ => ⟨S2304x256, .f32⟩
  | .local _ .vmem, ⟨6, _⟩ => ⟨S2304x256, .f32⟩
  | _, _ => ⟨S16x576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2304x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2304x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2304x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x576x1024 : Shape := ⟨3, ![16, 576, 1024]⟩
abbrev S1024x256 : Shape := ⟨2, ![1024, 256]⟩
abbrev S_ : Shape := ⟨0, ![]⟩
abbrev S16x576 : Shape := ⟨2, ![16, 576]⟩
abbrev S16x576x1 : Shape := ⟨3, ![16, 576, 1]⟩
abbrev S16x576x256 : Shape := ⟨3, ![16, 576, 256]⟩

abbrev nBuf : Space → Nat
  | .hbm => 23
  | .vmem => 0
  | .smem => 0
  | _ => 0

abbrev bufTy : (tb : Table) → Fin (tcTables nBuf tb) → BufTy
  | .hbm, ⟨0, _⟩ => ⟨S16x576x1024, .f32⟩
  | .hbm, ⟨1, _⟩ => ⟨S1024x256, .f32⟩
  | .hbm, ⟨2, _⟩ => ⟨S_, .f32⟩
  | .hbm, ⟨3, _⟩ => ⟨S16x576x1024, .f32⟩
  | .hbm, ⟨4, _⟩ => ⟨S16x576x1024, .f32⟩
  | .hbm, ⟨5, _⟩ => ⟨S_, .f32⟩
  | .hbm, ⟨6, _⟩ => ⟨S16x576x1024, .f32⟩
  | .hbm, ⟨7, _⟩ => ⟨S16x576x1024, .f32⟩
  | .hbm, ⟨8, _⟩ => ⟨S_, .f32⟩
  | .hbm, ⟨9, _⟩ => ⟨S16x576, .f32⟩
  | .hbm, ⟨10, _⟩ => ⟨S_, .f32⟩
  | .hbm, ⟨11, _⟩ => ⟨S16x576, .f32⟩
  | .hbm, ⟨12, _⟩ => ⟨S16x576, .f32⟩
  | .hbm, ⟨13, _⟩ => ⟨S16x576x1, .f32⟩
  | .hbm, ⟨14, _⟩ => ⟨S16x576x1024, .f32⟩
  | .hbm, ⟨15, _⟩ => ⟨S16x576x1024, .f32⟩
  | .hbm, ⟨16, _⟩ => ⟨S16x576x1024, .f32⟩
  | .hbm, ⟨17, _⟩ => ⟨S_, .f32⟩
  | .hbm, ⟨18, _⟩ => ⟨S16x576, .f32⟩
  | .hbm, ⟨19, _⟩ => ⟨S16x576x1, .f32⟩
  | .hbm, ⟨20, _⟩ => ⟨S16x576x1024, .f32⟩
  | .hbm, ⟨21, _⟩ => ⟨S16x576x1024, .f32⟩
  | .hbm, ⟨22, _⟩ => ⟨S16x576x256, .f32⟩
  | _, _ => ⟨S16x576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.Soft.lean ====
/- The mathematics of one row, with no program in it: a row of scores `x`, a column of the codebook `c`, all extended
   reals. The kernel divides the weighted sum by the sum of the exponentials; the reference divides each exponential
   first. The two agree when the row's maximum is a real number, whatever `c` holds. -/
module

public import Idealize.ShloMosaic.PureOps.Ideal.Laws

@[expose] public section

noncomputable section

namespace Cert.Soft

open Idealize.ShloMosaic

variable {n : ℕ}

/-- The maximum of a row, from minus infinity. -/
def rowMax (x : Fin n → EReal) : EReal := Finset.univ.fold max ⊥ x

/-- The exponential of the distance of entry `k` from the row's maximum. -/
def rowExp (x : Fin n → EReal) (k : Fin n) : EReal := Ideal.exp (x k - rowMax x)

/-- The sum of the row's exponentials. -/
def rowSum (x : Fin n → EReal) : EReal := ∑ k, rowExp x k

/-- The weighted sum, divided once at the end. -/
def late (x c : Fin n → EReal) : EReal := Ideal.div (∑ k, rowExp x k * c k) (rowSum x)

/-- The weighted sum, each weight divided first. -/
def early (x c : Fin n → EReal) : EReal := ∑ k, Ideal.div (rowExp x k) (rowSum x) * c k

/-- No entry exceeds the row's maximum. -/
theorem le_rowMax (x : Fin n → EReal) (k : Fin n) : x k ≤ rowMax x :=
  Finset.le_fold_max _ |>.2 (Or.inr ⟨k, Finset.mem_univ k, le_rfl⟩)

/-- A maximum above minus infinity is attained. -/
theorem exists_eq_rowMax (x : Fin n → EReal) (h : ⊥ < rowMax x) : ∃ k, x k = rowMax x := by
  rcases Finset.le_fold_max (rowMax x) |>.1 (le_refl (rowMax x)) with h' | ⟨k, -, h'⟩
  · exact absurd h' (not_le.2 h)
  · exact ⟨k, le_antisymm (le_rowMax x k) h'⟩

/-- When the maximum is real every exponential is a nonnegative real. -/
theorem rowExp_real (x : Fin n → EReal) (hb : ⊥ < rowMax x) (ht : rowMax x < ⊤) (k : Fin n) :
    ∃ e : ℝ, 0 ≤ e ∧ rowExp x k = (e : EReal) := by
  unfold rowExp
  have hk := le_rowMax x k
  generalize rowMax x = μ at *
  induction μ using EReal.rec with
  | bot => exact absurd hb (lt_irrefl _)
  | top => exact absurd ht (lt_irrefl _)
  | coe μ =>
    generalize x k = a at *
    induction a using EReal.rec with
    | bot => exact ⟨0, le_rfl, by rw [EReal.bot_sub]; simp⟩
    | top => exact absurd ht (not_lt.2 hk)
    | coe r => exact ⟨Real.exp (r - μ), (Real.exp_pos _).le, by rw [← EReal.coe_sub, Ideal.exp_coe]⟩

/-- Multiplying by a nonnegative real distributes over any finite sum of extended reals. -/
theorem sum_mul_coe (f : Fin n → EReal) (r : ℝ) (hr : 0 ≤ r) :
    (∑ k, f k) * (r : EReal) = ∑ k, f k * (r : EReal) := by
  classical
  induction (Finset.univ : Finset (Fin n)) using Finset.induction_on with
  | empty => simp
  | insert a s ha ih =>
    rw [Finset.sum_insert ha, Finset.sum_insert ha,
      EReal.right_distrib_of_nonneg_of_ne_top (by exact_mod_cast hr) (EReal.coe_ne_top r), ih]

/-- A finite sum of reals is the same sum among the extended reals. -/
theorem coe_sum (f : Fin n → ℝ) : ∑ k, (f k : EReal) = ((∑ k, f k : ℝ) : EReal) := by
  classical
  induction (Finset.univ : Finset (Fin n)) using Finset.induction_on with
  | empty => simp
  | insert a s ha ih => rw [Finset.sum_insert ha, Finset.sum_insert ha, ih, EReal.coe_add]

/-- When the maximum is real the sum of the exponentials is a positive real. -/
theorem rowSum_real (x : Fin n → EReal) (hb : ⊥ < rowMax x) (ht : rowMax x < ⊤) :
    ∃ s : ℝ, 0 < s ∧ rowSum x = (s : EReal) := by
  choose e he hx using rowExp_real x hb ht
  refine ⟨∑ k, e k, ?_, ?_⟩
  · obtain ⟨k, hk⟩ := exists_eq_rowMax x hb
    have h1 : e k = 1 := by
      have h := hx k
      unfold rowExp at h
      rw [hk, EReal.sub_self ht.ne hb.ne', ← EReal.coe_zero, Ideal.exp_coe, Real.exp_zero] at h
      exact_mod_cast h.symm
    have h2 : e k ≤ ∑ k, e k := Finset.single_le_sum (fun i _ => he i) (Finset.mem_univ k)
    linarith
  · unfold rowSum
    simp only [hx]
    exact coe_sum e

/-- THE EQUATION: with a real row maximum, dividing once at the end is dividing each weight first. -/
theorem late_eq_early (x c : Fin n → EReal) (hb : ⊥ < rowMax x) (ht : rowMax x < ⊤) : late x c = early x c := by
  obtain ⟨s, hs, e⟩ := rowSum_real x hb ht
  unfold late early
  rw [e, Ideal.div_coe hs.ne', sum_mul_coe _ _ (by positivity)]
  exact Finset.sum_congr rfl fun k _ => by rw [Ideal.div_coe hs.ne', mul_right_comm]

end Cert.Soft

end
-- ==== Proof.Payload.lean ====
/- One block of the kernel read at an index, at the extended reals: row `r` of the block, column `d`. -/
module

public import proofs.«01_k».proof.Proof.Gen.KernelIdeal.Skeleton
public import proofs.«01_k».proof.Proof.Soft
public import Idealize.ShloMosaic.Lib.Pipeline.Value
public import Idealize.ShloMosaic.Lib.ValueIdx
public import Idealize.ShloMosaic.Lib.MatmulPlain
public import Idealize.ShloMosaic.PureOps.Ideal.Laws

@[expose] public section

noncomputable section

namespace Cert.KernelIdeal.Block

open Cert.KernelIdeal Cert.KernelIdeal.Gen Idealize.ShloMosaic Idealize.ShloMosaic.ValueIdx Cert.Soft

/-- The pattern of minus infinity is the bottom of the extended reals. -/
theorem ofBits_neg_inf : Ideal.ofBits .f32 0xFF800000#32 = ⊥ := by simp [Ideal.ofBits, Ideal.ieee]

/-- The pattern of plus infinity is the top of the extended reals. -/
theorem ofBits_pos_inf : Ideal.ofBits .f32 0x7F800000#32 = ⊤ := by simp [Ideal.ofBits, Ideal.ieee]

/-- The pattern of one is one. -/
theorem ofBits_one : Ideal.ofBits .f32 0x3F800000#32 = 1 := by
  simp [Ideal.ofBits, Ideal.ieee]
  rw [← EReal.coe_mul]
  norm_num

/-- Inserting column `k` into row `r`. -/
theorem lift_row (r : Fin 2304) (k : Fin 1024) :
    reduces_S2304x1024_S2304.lift (ix1 r) k = ix2 r k := by
  funext a
  apply Fin.ext
  match a with
  | ⟨0, _⟩ => rfl
  | ⟨1, _⟩ => rfl

/-- A column vector made of a row statistic, read at row `r`. -/
theorem column_apply (v : FVec Ideal S2304 .f32) (r : Fin 2304) :
    shapeCast S2304x1 v shapeCasts_S2304_S2304x1 (ix2 r 0) = v (ix1 r) := by
  apply shapeCast_apply
  rw [Shape.rowMajor_val_one, Shape.rowMajor_val_two]
  show r.val = r.val * 1 + 0
  omega

/-- A row statistic spread over 1024 columns. -/
theorem spread_in (v : FVec Ideal S2304 .f32) (r : Fin 2304) (k : Fin 1024) :
    broadcastTo S2304x1024 (shapeCast S2304x1 v shapeCasts_S2304_S2304x1) broadcasts_S2304x1_S2304x1024 (ix2 r k) = v (ix1 r) := by
  rw [broadcastTo_apply _ broadcasts_S2304x1_S2304x1024 (ix2 r k) (ix2 r 0), column_apply]
  intro a
  match a with
  | ⟨0, _⟩ => rfl
  | ⟨1, _⟩ => rfl

/-- A row statistic spread over 256 columns. -/
theorem spread_out (v : FVec Ideal S2304 .f32) (r : Fin 2304) (d : Fin 256) :
    broadcastTo S2304x256 (shapeCast S2304x1 v shapeCasts_S2304_S2304x1) broadcasts_S2304x1_S2304x256 (ix2 r d) = v (ix1 r) := by
  rw [broadcastTo_apply _ broadcasts_S2304x1_S2304x256 (ix2 r d) (ix2 r 0), column_apply]
  intro a
  match a with
  | ⟨0, _⟩ => rfl
  | ⟨1, _⟩ => rfl

/-- The row maxima of a block. -/
def maxBlock (v0 : Vec Ideal S2304x1024 .f32) : FVec Ideal S2304 .f32 :=
  multiReduction .maximumf [1] S2304 v0 0xFF800000#32 reduces_S2304x1024_S2304 (.inl rfl) rfl

/-- Read at row `r`: the row's maximum. -/
theorem maxBlock_apply (v0 : Vec Ideal S2304x1024 .f32) (r : Fin 2304) :
    maxBlock v0 (ix1 r) = rowMax (fun k : Fin 1024 => v0 (ix2 r k)) := by
  have h := Ideal.multiReduction_maximumf_single (φ := .f32) (a := (1 : Fin S2304x1024.rank)) v0 0xFF800000#32
    reduces_S2304x1024_S2304 (.inl rfl) rfl (ix1 r)
  unfold maxBlock rowMax
  refine Eq.trans h ?_
  have e : (v0 ∘ reduces_S2304x1024_S2304.lift (ix1 r)) = fun k : Fin 1024 => v0 (ix2 r k) :=
    funext fun k => congrArg v0 (lift_row r k)
  exact (congrArg (fun f => Finset.fold max _ f Finset.univ) e).trans
    (congrArg (fun b => Finset.fold max b _ Finset.univ) ofBits_neg_inf)

/-- The row sums of a block. -/
def sumBlock (v : FVec Ideal S2304x1024 .f32) : FVec Ideal S2304 .f32 :=
  multiReduction .add [1] S2304 v 0x00000000#32 reduces_S2304x1024_S2304 (.inl rfl) rfl

/-- Read at row `r`: the sum over the columns. -/
theorem sumBlock_apply (v : FVec Ideal S2304x1024 .f32) (r : Fin 2304) :
    sumBlock v (ix1 r) = ∑ k : Fin 1024, v (ix2 r k) :=
  (Ideal.multiReduction_add_single v 0x00000000#32 reduces_S2304x1024_S2304 (.inl rfl) rfl (ix1 r)).trans
    (Finset.sum_congr rfl fun k _ => congrArg v (lift_row r k))

/-- The exponentials of a block. -/
def expBlock (v0 : Vec Ideal S2304x1024 .f32) : FVec Ideal S2304x1024 .f32 :=
  exp (subf (F := Ideal) (φ := .f32) v0 (broadcastTo S2304x1024 (shapeCast S2304x1 (maxBlock v0)
    shapeCasts_S2304_S2304x1) broadcasts_S2304x1_S2304x1024))

/-- They are the row exponentials. -/
theorem expBlock_apply (v0 : Vec Ideal S2304x1024 .f32) (r : Fin 2304) (k : Fin 1024) :
    expBlock v0 (ix2 r k) = rowExp (fun k : Fin 1024 => v0 (ix2 r k)) k := by
  show Ideal.exp (v0 (ix2 r k) - broadcastTo S2304x1024 _ _ (ix2 r k)) = _
  rw [spread_in, maxBlock_apply]
  rfl

/-- The product of the exponentials with the codebook. -/
def accBlock (v : FVec Ideal S2304x1024 .f32) (v10 : FVec Ideal S1024x256 .f32) : FVec Ideal S2304x256 .f32 :=
  matmul dot_S2304x1024_S1024x256_S2304x256_1_0_0_1_n_n none v v10 (constant S2304x256 .f32 0x00000000#32)

/-- Read at row `r`, column `d`: the sum over the 1024 codebook rows. -/
theorem accBlock_apply (v : FVec Ideal S2304x1024 .f32) (v10 : FVec Ideal S1024x256 .f32) (r : Fin 2304) (d : Fin 256) :
    accBlock v v10 (ix2 r d) = ∑ k : Fin 1024, v (ix2 r k) * v10 (ix2 k d) := by
  refine (Ideal.matmul_plain_apply (φ₁ := .f32) (φ₂ := .f32) none v v10 (constant S2304x256 .f32 0x00000000#32) r d).trans ?_
  show Ideal.ofBits .f32 0x00000000#32 + _ = _
  rw [Ideal.ofBits_zero_f32, zero_add]

/-- The stored block, from these stages. -/
theorem pay2_eq (v0 : Vec Ideal S2304x1024 .f32) (v10 : Vec Ideal S1024x256 .f32) :
    k0_pay2 (F := Ideal) v0 v10 = divf (accBlock (expBlock v0) v10) (broadcastTo S2304x256
      (shapeCast S2304x1 (sumBlock (expBlock v0)) shapeCasts_S2304_S2304x1) broadcasts_S2304x1_S2304x256) := by
  have e1 : k0_pay1 (F := Ideal) v0 = v0 := shapeCast_self v0 _
  unfold k0_pay2
  rw [e1]
  rfl

/-- The stored block read at row `r`, column `d`: the weighted sum of the codebook's column, divided by the row's sum. -/
theorem pay2_apply (v0 : Vec Ideal S2304x1024 .f32) (v10 : Vec Ideal S1024x256 .f32) (r : Fin 2304) (d : Fin 256) :
    k0_pay2 (F := Ideal) v0 v10 (ix2 r d) = late (fun k : Fin 1024 => v0 (ix2 r k)) (fun k : Fin 1024 => v10 (ix2 k d)) := by
  rw [pay2_eq]
  show Ideal.div (accBlock (expBlock v0) v10 (ix2 r d)) (broadcastTo S2304x256 _ _ (ix2 r d)) = _
  rw [spread_out, sumBlock_apply, accBlock_apply]
  simp only [expBlock_apply]
  rfl

end Cert.KernelIdeal.Block

end
-- ==== Proof.Arrays.lean ====
/- The kernel's run read at the extended reals: each of its two result arrays as a function of the arguments, index by
   index. Each grid point writes back its block of one whole-array function, and the four blocks fill the array. -/
module

public import proofs.«01_k».proof.Proof.Gen.KernelIdeal.Frame
public import proofs.«01_k».proof.Proof.Payload
public import Idealize.ShloMosaic.Lib.Pipeline.Value

@[expose] public section

noncomputable section

namespace Cert.KernelIdeal.Arrays

open Cert.KernelIdeal Cert.KernelIdeal.Gen Cert.KernelIdeal.Block Cert.Soft
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- A rectangle that starts at the origin. -/
theorem origin : (![0, 0] : Fin 2 → Nat) = fun _ => 0 := funext fun a => by fin_cases a <;> rfl

/-- The first window is at block `t` of the rows at point `t`. -/
theorem index0 : ∀ t : Fin cfg0.N, win0_0.index t 0 = t.val ∧ win0_0.index t 1 = 0 := by decide +kernel
/-- The codebook's window is the whole codebook at every point. -/
theorem index1 : ∀ t : Fin cfg0.N, win0_1.index t 0 = 0 ∧ win0_1.index t 1 = 0 := by decide +kernel
/-- The first result's window is at block `t` at point `t`. -/
theorem index2 : ∀ t : Fin cfg0.N, win0_2.index t 0 = t.val ∧ win0_2.index t 1 = 0 := by decide +kernel
/-- The second result's window is at block `t` at point `t`. -/
theorem index3 : ∀ t : Fin cfg0.N, win0_3.index t 0 = t.val ∧ win0_3.index t 1 = 0 := by decide +kernel

/-- Where an element of the rows' block at point `t` sits in the rows. -/
theorem emb0 (t : Fin cfg0.N) (y : (win0_0.xblock (grid0.coords t)).Idx) :
    ((win0_0.rect t).emb y (0 : Fin 2) : Nat) = t.val * 2304 + (y (0 : Fin 2) : Nat)
      ∧ ((win0_0.rect t).emb y (1 : Fin 2) : Nat) = (y (1 : Fin 2) : Nat) := by
  have h0 := Pipeline.Window.rect_emb_val win0_0 t y (0 : Fin 2) rfl
  rw [(index0 t).1] at h0
  exact ⟨h0, Pipeline.Window.rect_emb_val_of_index_zero win0_0 t (1 : Fin 2) (index0 t).2 y⟩
/-- An element of the codebook's block sits in the codebook where it is in the block. -/
theorem emb1 (t : Fin cfg0.N) (y : (win0_1.xblock (grid0.coords t)).Idx) :
    ((win0_1.rect t).emb y (0 : Fin 2) : Nat) = (y (0 : Fin 2) : Nat)
      ∧ ((win0_1.rect t).emb y (1 : Fin 2) : Nat) = (y (1 : Fin 2) : Nat) :=
  ⟨Pipeline.Window.rect_emb_val_of_index_zero win0_1 t (0 : Fin 2) (index1 t).1 y,
    Pipeline.Window.rect_emb_val_of_index_zero win0_1 t (1 : Fin 2) (index1 t).2 y⟩
/-- Where an element of the first result's block at point `t` sits in that result. -/
theorem emb2 (t : Fin cfg0.N) (y : (win0_2.xblock (grid0.coords t)).Idx) :
    ((win0_2.rect t).emb y (0 : Fin 2) : Nat) = t.val * 2304 + (y (0 : Fin 2) : Nat)
      ∧ ((win0_2.rect t).emb y (1 : Fin 2) : Nat) = (y (1 : Fin 2) : Nat) := by
  have h0 := Pipeline.Window.rect_emb_val win0_2 t y (0 : Fin 2) rfl
  rw [(index2 t).1] at h0
  exact ⟨h0, Pipeline.Window.rect_emb_val_of_index_zero win0_2 t (1 : Fin 2) (index2 t).2 y⟩
/-- Where an element of the second result's block at point `t` sits in that result. -/
theorem emb3 (t : Fin cfg0.N) (y : (win0_3.xblock (grid0.coords t)).Idx) :
    ((win0_3.rect t).emb y (0 : Fin 2) : Nat) = t.val * 2304 + (y (0 : Fin 2) : Nat)
      ∧ ((win0_3.rect t).emb y (1 : Fin 2) : Nat) = (y (1 : Fin 2) : Nat) := by
  have h0 := Pipeline.Window.rect_emb_val win0_3 t y (0 : Fin 2) rfl
  rw [(index3 t).1] at h0
  exact ⟨h0, Pipeline.Window.rect_emb_val_of_index_zero win0_3 t (1 : Fin 2) (index3 t).2 y⟩

/-- The rows as the region finds them. -/
abbrev rows (c : Dev nD) : S9216x1024.Idx → EReal := V m c main_v0
/-- The codebook as the region finds it. -/
abbrev book (c : Dev nD) : S1024x256.Idx → EReal := V m c main_arg1

/-- The quantised rows: what the second result array is shown to hold. -/
def quant (z : S9216x1024.Idx → EReal) (b : S1024x256.Idx → EReal) : S9216x256.Idx → EReal := fun i =>
  late (fun k : Fin 1024 => z (ix2 ⟨(i 0).val, (i 0).isLt⟩ k)) (fun k : Fin 1024 => b (ix2 k ⟨(i 1).val, (i 1).isLt⟩))

/-- What a point writes back of the first result is its block of the rows. -/
theorem flushed2 (c : Dev nD) (t : Fin cfg0.N) :
    (dats m 0 c).flushed 2 t = (win0_2.blk t).view.read (Elt Ideal) (rows m c) := by
  show (cfg0.win 2).cut (grid0.coords t) ((dats m 0 c).after 2 t) = _
  rw [after0_2]
  unfold out0_2
  rw [View.canon_unit_zero origin, View.ld_unit_zero origin]
  unfold k0_pay1
  rw [shapeCast_self]
  funext y
  show rows m c ((win0_0.rect t).emb y) = rows m c ((win0_2.rect t).emb y)
  refine congrArg (rows m c) (funext fun a => Fin.ext ?_)
  match a with
  | ⟨0, _⟩ => exact (emb0 t y).1.trans (emb2 t y).1.symm
  | ⟨1, _⟩ => exact (emb0 t y).2.trans (emb2 t y).2.symm

/-- What a point writes back of the second result is its block of the quantised rows. -/
theorem flushed3 (c : Dev nD) (t : Fin cfg0.N) :
    (dats m 0 c).flushed 3 t = (win0_3.blk t).view.read (Elt Ideal) (quant (rows m c) (book m c)) := by
  show (cfg0.win 3).cut (grid0.coords t) ((dats m 0 c).after 3 t) = _
  rw [after0_3]
  unfold out0_3
  rw [View.canon_unit_zero origin, View.ld_unit_zero origin, View.ld_unit_zero origin]
  funext y
  obtain ⟨r, d, rfl⟩ : ∃ (r : Fin 2304) (d : Fin 256), y = ix2 r d := ⟨y 0, y 1, eq_ix2 y⟩
  show k0_pay2 (F := Ideal) (iblk m c 0 t) (iblk m c 1 t) (ix2 r d) = quant (rows m c) (book m c) ((win0_3.rect t).emb (ix2 r d))
  rw [pay2_apply]
  unfold quant
  congr 1
  · funext k
    show rows m c ((win0_0.rect t).emb (ix2 r k)) = _
    refine congrArg (rows m c) (funext fun a => Fin.ext ?_)
    match a with
    | ⟨0, _⟩ => exact (emb0 t (ix2 r k)).1.trans (emb3 t (ix2 r d)).1.symm
    | ⟨1, _⟩ => exact (emb0 t (ix2 r k)).2
  · funext k
    show book m c ((win0_1.rect t).emb (ix2 k d)) = _
    refine congrArg (book m c) (funext fun a => Fin.ext ?_)
    match a with
    | ⟨0, _⟩ => exact (emb1 t (ix2 k d)).1
    | ⟨1, _⟩ => exact (emb1 t (ix2 k d)).2.trans (emb3 t (ix2 r d)).2.symm

/-- An index is in point `t`'s block of the first result when its row is among the block's 2304. -/
theorem mem2 (t : Fin cfg0.N) (i : S9216x1024.Idx) (h : t.val * 2304 ≤ (i 0 : Nat) ∧ (i 0 : Nat) < t.val * 2304 + 2304) :
    i ∈ ((cfg0.win 2).blk t).view.set := by
  show i ∈ ((View.whole main_v1_0).slice (win0_2.rect t)).set
  rw [View.set_slice_whole, Rect.mem_set_unit]
  intro a
  match a with
  | ⟨0, _⟩ => show win0_2.index t 0 * 2304 ≤ (i 0 : Nat) ∧ (i 0 : Nat) < win0_2.index t 0 * 2304 + 2304
              rw [(index2 t).1]; exact h
  | ⟨1, _⟩ => show win0_2.index t 1 * 1024 ≤ (i 1 : Nat) ∧ (i 1 : Nat) < win0_2.index t 1 * 1024 + 1024
              rw [(index2 t).2, Nat.zero_mul, Nat.zero_add]; exact ⟨Nat.zero_le _, (i 1).isLt⟩

/-- An index is in point `t`'s block of the second result when its row is among the block's 2304. -/
theorem mem3 (t : Fin cfg0.N) (i : S9216x256.Idx) (h : t.val * 2304 ≤ (i 0 : Nat) ∧ (i 0 : Nat) < t.val * 2304 + 2304) :
    i ∈ ((cfg0.win 3).blk t).view.set := by
  show i ∈ ((View.whole main_v1_1).slice (win0_3.rect t)).set
  rw [View.set_slice_whole, Rect.mem_set_unit]
  intro a
  match a with
  | ⟨0, _⟩ => show win0_3.index t 0 * 2304 ≤ (i 0 : Nat) ∧ (i 0 : Nat) < win0_3.index t 0 * 2304 + 2304
              rw [(index3 t).1]; exact h
  | ⟨1, _⟩ => show win0_3.index t 1 * 256 ≤ (i 1 : Nat) ∧ (i 1 : Nat) < win0_3.index t 1 * 256 + 256
              rw [(index3 t).2, Nat.zero_mul, Nat.zero_add]; exact ⟨Nat.zero_le _, (i 1).isLt⟩

/-- The point whose block holds row `n`. -/
theorem point_of_row (n : Nat) (h : n < 9216) : ∃ t : Fin cfg0.N, t.val * 2304 ≤ n ∧ n < t.val * 2304 + 2304 := by
  have hN : cfg0.N = 4 := N_0
  exact ⟨⟨n / 2304, by omega⟩, by dsimp only; omega, by dsimp only; omega⟩

/-- The first result array ends holding the rows. -/
theorem final2 (c : Dev nD) : (dats m 0 c).arrAt 2 cfg0.N = rows m c :=
  (dats m 0 c).arrAt_eq_of_cover 2 (rows m c) (fun t _ => flushed2 m c t) fun i => by
    obtain ⟨t, h⟩ := point_of_row (i 0).val (i 0).isLt
    exact ⟨t, flush0_2 t, mem2 t i h⟩

/-- The second result array ends holding the quantised rows. -/
theorem final3 (c : Dev nD) : (dats m 0 c).arrAt 3 cfg0.N = quant (rows m c) (book m c) :=
  (dats m 0 c).arrAt_eq_of_cover 3 (quant (rows m c) (book m c)) (fun t _ => flushed3 m c t) fun i => by
    obtain ⟨t, h⟩ := point_of_row (i 0).val (i 0).isLt
    exact ⟨t, flush0_3 t, mem3 t i h⟩

/-- The scores as launched. -/
abbrev scores (c : Dev nD) : S16x576x1024.Idx → EReal := m ((c : Thread nD τ).loc main_arg0)
/-- The codebook as launched. -/
abbrev codebook (c : Dev nD) : S1024x256.Idx → EReal := m ((c : Thread nD τ).loc main_arg1)

/-- The rows the region finds are the scores, flattened. -/
theorem rows_eq (c : Dev nD) : rows m c = shapeCast S9216x1024 (scores m c) shapeCasts_S16x576x1024_S9216x1024 := by
  show StableHlo.after [StableHlo.reshape main_arg0 main_v0 (rfl : (.f32 : EltTy) = .f32) shapeCasts_S16x576x1024_S9216x1024] _ _ = _
  after_results
  rfl

/-- What the two host reshapes leave in the first result. -/
theorem tail2 (c : Dev nD) : Pipeline.afterTail₀ cfgs (dats m) 0 (V0 m) [hostOps1] c main_v2 = scores m c := by
  have e : Pipeline.afterTail₀ cfgs (dats m) 0 (V0 m) [hostOps1] c main_v2
      = shapeCast S16x576x1024 ((dats m 0 c).arrAt 2 cfg0.N) shapeCasts_S9216x1024_S16x576x1024 := by
    unfold Pipeline.afterTail₀
    show StableHlo.after hostOps1 _ _ = _
    unfold hostOps1
    after_results
    exact congrArg (fun A => shapeCast S16x576x1024 A shapeCasts_S9216x1024_S16x576x1024)
      (Pipeline.withArrays_arr spec0 (by decide) c (V0 m c) (fun w => (dats m 0 c).arrAt w cfg0.N) 2)
  rw [e, final2, rows_eq]
  exact shapeCast_shapeCast _ _ _

/-- What they leave in the second. -/
theorem tail3 (c : Dev nD) : Pipeline.afterTail₀ cfgs (dats m) 0 (V0 m) [hostOps1] c main_v3
    = shapeCast S16x576x256 (quant (rows m c) (codebook m c)) shapeCasts_S9216x256_S16x576x256 := by
  have e : Pipeline.afterTail₀ cfgs (dats m) 0 (V0 m) [hostOps1] c main_v3
      = shapeCast S16x576x256 ((dats m 0 c).arrAt 3 cfg0.N) shapeCasts_S9216x256_S16x576x256 := by
    unfold Pipeline.afterTail₀
    show StableHlo.after hostOps1 _ _ = _
    unfold hostOps1
    after_results
    exact congrArg (fun A => shapeCast S16x576x256 A shapeCasts_S9216x256_S16x576x256)
      (Pipeline.withArrays_arr spec0 (by decide) c (V0 m c) (fun w => (dats m 0 c).arrAt w cfg0.N) 3)
  rw [e, final3, show book m c = codebook m c from V_main_arg1 m c]

/-- The quantised scores: row `(b, t)`, column `d`. -/
def quantised (z : S16x576x1024.Idx → EReal) (b : S1024x256.Idx → EReal) : S16x576x256.Idx → EReal := fun i =>
  late (fun k : Fin 1024 => z (ix3 ⟨(i 0).val, (i 0).isLt⟩ ⟨(i 1).val, (i 1).isLt⟩ k))
    (fun k : Fin 1024 => b (ix2 k ⟨(i 2).val, (i 2).isLt⟩))

/-- Read at row `(b, t)`, column `d` of the original shape. -/
theorem unflatten (c : Dev nD) :
    shapeCast S16x576x256 (quant (rows m c) (codebook m c)) shapeCasts_S9216x256_S16x576x256
      = quantised (scores m c) (codebook m c) := by
  funext i
  have h0 : (i 0 : Nat) < 16 := (i 0).isLt
  have h1 : (i 1 : Nat) < 576 := (i 1).isLt
  have h2 : (i 2 : Nat) < 256 := (i 2).isLt
  rw [shapeCast_apply _ _ i (ix2 ⟨(i 0).val * 576 + (i 1).val, by omega⟩ ⟨(i 2).val, h2⟩)
    (by rw [Shape.rowMajor_val_two, Shape.rowMajor_val_three]; rfl)]
  unfold quant quantised
  congr 1
  funext k
  rw [rows_eq]
  exact shapeCast_apply _ _ _ _ (by rw [Shape.rowMajor_val_two, Shape.rowMajor_val_three]; rfl)

/-- THE RUN, READ: the first result is the scores, the second the quantised scores, the arguments unchanged. -/
theorem run : θ_run defs (onTc (τ := τ) (main (F := Ideal))) ⟨m, fun _ => 0, ρ⟩ (fun r => ∀ c : Dev nD,
      r.2.mem ((c.tc : Thread nD τ).loc main_v2) = scores m c
      ∧ r.2.mem ((c.tc : Thread nD τ).loc main_v3) = quantised (scores m c) (codebook m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v2 (Pipeline.mem_restRefs_of main_v2 (by decide) (by decide))).trans (tail2 m c),
      ((h c).2 main_v3 (Pipeline.mem_restRefs_of main_v3 (by decide) (by decide))).trans ((tail3 m c).trans (unflatten m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Arrays

end
-- ==== Proof.Ref.lean ====
/- The reference read at the extended reals, index by index, and what the precondition says of the scores. -/
module

public import proofs.«01_k».proof.Pre_row_max_finite
public import proofs.«01_k».proof.Proof.Gen.Pre_row_max_finite
public import proofs.«01_k».proof.Proof.Gen.ReferenceIdeal.Read
public import proofs.«01_k».proof.Proof.Payload

@[expose] public section

noncomputable section

namespace Cert.RefRead

open Idealize.ShloMosaic Idealize.ShloMosaic.ValueIdx Cert.Soft
open Cert.KernelIdeal.Block (ofBits_neg_inf ofBits_pos_inf ofBits_one)

/-- A score array's shape. -/
abbrev Sz : Shape := ⟨3, ![16, 576, 1024]⟩
/-- The shape of its row statistics. -/
abbrev Sr : Shape := ⟨2, ![16, 576]⟩

/-- Row `(b, t)` of the scores. -/
abbrev row (z : Sz.Idx → EReal) (b : Fin 16) (t : Fin 576) : Fin 1024 → EReal := fun k => z (ix3 b t k)

/-- Dropping the last axis leaves a row statistic. -/
theorem reduces : Sz.Reduces [2] Sr := by decide

/-- The host's maximum over the last axis, from minus infinity, is the row's maximum. -/
theorem hostMax_apply (z : FVec Ideal Sz .f32) (init : FVec Ideal ⟨0, ![]⟩ .f32) (hi : ∀ i, init i = ⊥)
    (h' : Sz.ReducesTo [2] Sr) (hu : 0 < (⟨0, ![]⟩ : Shape).numel) (b : Fin 16) (t : Fin 576) :
    Host.reduce FloatOps.maximumf z init h' hu (ix2 b t) = rowMax (row z b t) := by
  have h := Host.reduce_eq_fold_single (a := (2 : Fin Sz.rank)) (FloatOps.maximumf (F := Ideal) (φ := .f32)) z init h'
    reduces hu (ix2 b t)
  refine h.trans ?_
  have e : (z ∘ reduces.lift (ix2 b t)) = row z b t := funext fun k => congrArg z (funext fun a => Fin.ext (by
    match a with
    | ⟨0, _⟩ => rfl
    | ⟨1, _⟩ => rfl
    | ⟨2, _⟩ => rfl))
  unfold rowMax
  rw [hi]
  exact congrArg (fun f => Finset.fold max ⊥ f Finset.univ) e

/-- Two comparisons that hold together are each true. -/
theorem both_of_and (p q : Prop) [Decidable p] [Decidable q]
    (h : IntOp.andi (BitVec.ofBool (decide p)) (BitVec.ofBool (decide q)) = 1#1) : p ∧ q := by
  unfold IntOp.andi at h
  by_cases hp : p <;> by_cases hq : q <;> simp [hp, hq] at h ⊢

/-- A splat spread over the rows, read at a row. -/
theorem splat_apply (w : BitVec 32) (hb : (⟨0, ![]⟩ : Shape).BroadcastsInDim Sr (![] : Fin 0 → Fin Sr.rank)) (j : Sr.Idx) :
    broadcastInDim Sr ![] hb (constant (F := Ideal) ⟨0, ![]⟩ .f32 w) j = Ideal.ofBits .f32 w :=
  broadcastInDim_apply _ hb _ j (fun a => a.elim0) (fun a => a.elim0)

/-- The two bounds, for any row statistic. -/
theorem bounds_apply (M lo hi : FVec Ideal Sr .f32) (j : Sr.Idx)
    (h : andi (cmpf .ogt M lo) (cmpf .olt M hi) = fun _ => 1#1) : lo j < M j ∧ M j < hi j :=
  both_of_and _ _ (congrFun h j)

/-- THE PRECONDITION, READ: every row's maximum lies strictly between the infinities. -/
theorem pre_apply (z : FVec Ideal Sz .f32) (cb : FVec Ideal ⟨2, ![1024, 256]⟩ .f32)
    (h : Cert.Pre_row_max_finite.fn (F := Ideal) z cb = fun _ => 1#1) (b : Fin 16) (t : Fin 576) :
    ⊥ < rowMax (row z b t) ∧ rowMax (row z b t) < ⊤ := by
  unfold Cert.Pre_row_max_finite.fn at h
  have h1 := bounds_apply _ _ _ (ix2 b t) h
  rw [splat_apply, splat_apply, ofBits_neg_inf, ofBits_pos_inf] at h1
  rw [← hostMax_apply z (constant ⟨0, ![]⟩ .f32 0xFF800000#32) (fun _ => ofBits_neg_inf)
    Cert.Pre_row_max_finite.Gen.reducesTo_S16x576x1024_S16x576_d2 Cert.Pre_row_max_finite.Gen.h_S_ b t]
  exact h1

open Cert.ReferenceIdeal Cert.ReferenceIdeal.Gen Cert.ReferenceIdeal.Read

variable (z : FVec Ideal Sz .f32) (cb : FVec Ideal ⟨2, ![1024, 256]⟩ .f32)

/-- Scaling twice by one changes nothing. -/
theorem scaled : val_main_v3 (F := Ideal) z = z := by
  funext i
  show z i * val_main_v0 (F := Ideal) i * val_main_v2 (F := Ideal) i = z i
  rw [val_main_v0_apply, val_main_v2_apply, val_main_cst_apply, val_main_cst_0_apply]
  show z i * Ideal.ofBits .f32 0x3F800000#32 * Ideal.ofBits .f32 0x3F800000#32 = z i
  rw [ofBits_one, mul_one, mul_one]

/-- The statistic subtracted from row `(b, t)` is its maximum. -/
theorem max_apply (b : Fin 16) (t : Fin 576) : val_main_v6 (F := Ideal) z (ix2 b t) = rowMax (row z b t) := by
  rw [val_main_v6_apply, val_main_v5_apply, val_main_cst_2_apply]
  show max (Ideal.ofBits .f32 0xFF800000#32) (val_main_v4 (F := Ideal) z (ix2 b t)) = _
  rw [ofBits_neg_inf, max_eq_right bot_le]
  unfold val_main_v4
  rw [scaled]
  exact hostMax_apply z _ (fun _ => ofBits_neg_inf) _ _ b t

/-- The exponentials are the row exponentials. -/
theorem exp_apply (b : Fin 16) (t : Fin 576) (k : Fin 1024) :
    val_main_v10 (F := Ideal) z (ix3 b t k) = rowExp (row z b t) k := by
  rw [val_main_v10_apply, val_main_v9_apply, scaled, val_main_v8_apply, val_main_v7_apply]
  have e : idx_main_v7 (idx_main_v8 (ix3 b t k)) = ix2 b t := funext fun a => Fin.ext (by
    match a with
    | ⟨0, _⟩ => rfl
    | ⟨1, _⟩ => rfl)
  rw [e, max_apply]
  rfl

/-- The normaliser of row `(b, t)` is its sum of exponentials. -/
theorem sum_apply (b : Fin 16) (t : Fin 576) (k : Fin 1024) :
    val_main_v13 (F := Ideal) z (ix3 b t k) = rowSum (row z b t) := by
  rw [val_main_v13_apply, val_main_v12_apply, val_main_v11_apply, val_main_cst_3_apply]
  show Ideal.ofBits .f32 0x00000000#32 + _ = _
  rw [Ideal.ofBits_zero_f32, zero_add]
  unfold rowSum
  refine Finset.sum_congr rfl fun j _ => ?_
  have e : idx_main_v11 (idx_main_v12 (idx_main_v13 (ix3 b t k))) j = ix3 b t j := funext fun a => Fin.ext (by
    match a with
    | ⟨0, _⟩ => rfl
    | ⟨1, _⟩ => rfl
    | ⟨2, _⟩ => rfl)
  rw [e, exp_apply]

/-- The reference's second result at row `(b, t)`, column `d`: each weight divided first. -/
theorem result_apply (b : Fin 16) (t : Fin 576) (d : Fin 256) :
    val_main_v15 (F := Ideal) z cb (ix3 b t d) = early (row z b t) (fun k : Fin 1024 => cb (ix2 k d)) := by
  rw [val_main_v15_apply]
  unfold early
  refine Finset.sum_congr rfl fun k _ => ?_
  have el : lidx_main_v15 (ix3 b t d) k = ix3 b t k := funext fun a => Fin.ext (by
    match a with
    | ⟨0, _⟩ => rfl
    | ⟨1, _⟩ => rfl
    | ⟨2, _⟩ => rfl)
  have er : ridx_main_v15 (ix3 b t d) k = ix2 k d := funext fun a => Fin.ext (by
    match a with
    | ⟨0, _⟩ => rfl
    | ⟨1, _⟩ => rfl)
  rw [el, er, val_main_v14_apply, exp_apply, sum_apply]
  rfl

end Cert.RefRead

end
-- ==== Proof.Equal.lean ====
/- The kernel's second result and the reference's are one array, where the precondition holds. -/
module

public import proofs.«01_k».proof.Proof.Arrays
public import proofs.«01_k».proof.Proof.Ref

@[expose] public section

noncomputable section

namespace Cert.Equal

open Idealize.ShloMosaic Idealize.ShloMosaic.ValueIdx Cert.Soft Cert.RefRead

/-- THE VALUE EQUATION: under the precondition, dividing once at the end is what the reference computes, at every index. -/
theorem results_equal (z : FVec Ideal Sz .f32) (cb : FVec Ideal ⟨2, ![1024, 256]⟩ .f32)
    (h : Cert.Pre_row_max_finite.fn (F := Ideal) z cb = fun _ => 1#1) :
    Cert.ReferenceIdeal.Read.val_main_v15 (F := Ideal) z cb = Cert.KernelIdeal.Arrays.quantised z cb := by
  funext i
  obtain ⟨b, t, d, rfl⟩ : ∃ (b : Fin 16) (t : Fin 576) (d : Fin 256), i = ix3 b t d := ⟨i 0, i 1, i 2, eq_ix3 i⟩
  rw [result_apply]
  obtain ⟨hb, ht⟩ := pre_apply z cb h b t
  exact (late_eq_early (row z b t) (fun k : Fin 1024 => cb (ix2 k d)) hb ht).symm

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_row_max_finite
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, its arguments end unchanged, and it has no semaphore to leave nonzero. -/
theorem reference_quiescent (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run _ _ _).mono (fun r h => ⟨fun c => (h c).2.2, Idealize.ShloMosaic.sem_eq_zero_of_no_sems (by decide) r.2⟩)
    (Cert.ReferenceIdeal.Value.run (F := Ideal) m g)

/-- Both results of the idealized kernel are the idealized reference's, wherever every row's maximum is finite. -/
theorem algebraic : Cert.algebraic_KernelIdeal_ReferenceIdeal_pre_row_max_finite := by
  intro m g m' g' hpre hagree
  refine ⟨fun c => Cert.KernelIdeal.Arrays.scores m c,
    fun c => Cert.KernelIdeal.Arrays.quantised (Cert.KernelIdeal.Arrays.scores m c) (Cert.KernelIdeal.Arrays.codebook m c),
    Cert.KernelIdeal.Arrays.run m g, ?_⟩
  refine (θ_run _ _ _).mono (fun r h c => ?_) (Cert.ReferenceIdeal.Value.run (F := Ideal) m' g')
  obtain ⟨h0, h1, h2, h3⟩ := h c
  refine ⟨h0.trans (hagree c).1, h1.trans ?_, h2, h3⟩
  refine (Cert.ReferenceIdeal.Read.val_main_v15_eq _ _).trans ?_
  rw [(hagree c).1, (hagree c).2]
  exact Cert.Equal.results_equal _ _ (hpre c)

/-- Every claim of this certificate. -/
theorem claim : Cert.Claim :=
  ⟨Cert.Kernel.Gen.facts, Cert.KernelIdeal.Gen.facts, Cert.ReferenceIdeal.Gen.facts, Cert.Pre_row_max_finite.Gen.facts,
    fun m g _ => Cert.Kernel.Gen.frame m g,
    fun m g _ => Cert.KernelIdeal.Gen.frame m g,
    fun m g _ => Cert.KernelIdeal.Gen.frame m g,
    fun m g _ => reference_quiescent m g,
    fun m g _ => reference_quiescent m g,
    trivial,
    algebraic⟩

end Cert.Proof

end
